-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x192 : Shape := ⟨3, ![2, 128, 192]⟩
abbrev S48x20480 : Shape := ⟨2, ![48, 20480]⟩
abbrev S128x20480 : Shape := ⟨2, ![128, 20480]⟩
abbrev S20480 : Shape := ⟨1, ![20480]⟩
abbrev S256x6x8x4 : Shape := ⟨4, ![256, 6, 8, 4]⟩
abbrev S6x4x8x256 : Shape := ⟨4, ![6, 4, 8, 256]⟩
abbrev S192x256 : Shape := ⟨2, ![192, 256]⟩
abbrev S1x20480 : Shape := ⟨2, ![1, 20480]⟩
abbrev S192x20480 : Shape := ⟨2, ![192, 20480]⟩
abbrev S48x512 : Shape := ⟨2, ![48, 512]⟩
abbrev S128x512 : Shape := ⟨2, ![128, 512]⟩
abbrev S1x512 : Shape := ⟨2, ![1, 512]⟩
abbrev S192x512 : Shape := ⟨2, ![192, 512]⟩
abbrev S256x512 : Shape := ⟨2, ![256, 512]⟩
abbrev S512 : Shape := ⟨1, ![512]⟩
abbrev S8x512 : Shape := ⟨2, ![8, 512]⟩
abbrev S32x512 : Shape := ⟨2, ![32, 512]⟩

abbrev nBuf : Space → Nat
  | .hbm => 16
  | .vmem => 19
  | .smem => 0
  | _ => 0

abbrev bufTy : (tb : Table) → Fin (tcTables nBuf tb) → BufTy
  | .hbm, ⟨0, _⟩ => ⟨S2x128x192, .bf16⟩
  | .hbm, ⟨1, _⟩ => ⟨S48x20480, .i32⟩
  | .hbm, ⟨2, _⟩ => ⟨S128x20480, .i32⟩
  | .hbm, ⟨3, _⟩ => ⟨S20480, .f32⟩
  | .hbm, ⟨4, _⟩ => ⟨S20480, .f32⟩
  | .hbm, ⟨5, _⟩ => ⟨S20480, .f32⟩
  | .hbm, ⟨6, _⟩ => ⟨S256x6x8x4, .bf16⟩
  | .hbm, ⟨7, _⟩ => ⟨S6x4x8x256, .bf16⟩
  | .hbm, ⟨8, _⟩ => ⟨S192x256, .bf16⟩
  | .hbm, ⟨9, _⟩ => ⟨S1x20480, .f32⟩
  | .hbm, ⟨10, _⟩ => ⟨S1x20480, .f32⟩
  | .hbm, ⟨11, _⟩ => ⟨S1x20480, .f32⟩
  | .hbm, ⟨12, _⟩ => ⟨S192x20480, .i8⟩
  | .hbm, ⟨13, _⟩ => ⟨S1x20480, .f32⟩
  | .hbm, ⟨14, _⟩ => ⟨S1x20480, .f32⟩
  | .hbm, ⟨15, _⟩ => ⟨S1x20480, .f32⟩
  | .local _ .vmem, ⟨0, _⟩ => ⟨S48x512, .i32⟩
  | .local _ .vmem, ⟨1, _⟩ => ⟨S48x512, .i32⟩
  | .local _ .vmem, ⟨2, _⟩ => ⟨S128x512, .i32⟩
  | .local _ .vmem, ⟨3, _⟩ => ⟨S128x512, .i32⟩
  | .local _ .vmem, ⟨4, _⟩ => ⟨S192x256, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S192x512, .i8⟩
  | .local _ .vmem, ⟨12, _⟩ => ⟨S192x512, .i8⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | _, _ => ⟨S2x128x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S48x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x128x192 : Shape := ⟨3, ![2, 128, 192]⟩
abbrev S48x20480 : Shape := ⟨2, ![48, 20480]⟩
abbrev S128x20480 : Shape := ⟨2, ![128, 20480]⟩
abbrev S20480 : Shape := ⟨1, ![20480]⟩
abbrev S_ : Shape := ⟨0, ![]⟩
abbrev S48x1x20480 : Shape := ⟨3, ![48, 1, 20480]⟩
abbrev S48x4x20480 : Shape := ⟨3, ![48, 4, 20480]⟩
abbrev S192x20480 : Shape := ⟨2, ![192, 20480]⟩
abbrev S20480x192 : Shape := ⟨2, ![20480, 192]⟩
abbrev S256x20480 : Shape := ⟨2, ![256, 20480]⟩
abbrev S20480x256 : Shape := ⟨2, ![20480, 256]⟩
abbrev S256x192 : Shape := ⟨2, ![256, 192]⟩
abbrev S20480x1 : Shape := ⟨2, ![20480, 1]⟩
abbrev S1x20480 : Shape := ⟨2, ![1, 20480]⟩

abbrev nBuf : Space → Nat
  | .hbm => 107
  | .vmem => 0
  | .smem => 0
  | _ => 0

abbrev bufTy : (tb : Table) → Fin (tcTables nBuf tb) → BufTy
  | .hbm, ⟨0, _⟩ => ⟨S2x128x192, .bf16⟩
  | .hbm, ⟨1, _⟩ => ⟨S48x20480, .i32⟩
  | .hbm, ⟨2, _⟩ => ⟨S128x20480, .i32⟩
  | .hbm, ⟨3, _⟩ => ⟨S20480, .f32⟩
  | .hbm, ⟨4, _⟩ => ⟨S20480, .f32⟩
  | .hbm, ⟨5, _⟩ => ⟨S20480, .f32⟩
  | .hbm, ⟨6, _⟩ => ⟨S_, .i32⟩
  | .hbm, ⟨7, _⟩ => ⟨S48x20480, .i32⟩
  | .hbm, ⟨8, _⟩ => ⟨S48x20480, .i32⟩
  | .hbm, ⟨9, _⟩ => ⟨S_, .i32⟩
  | .hbm, ⟨10, _⟩ => ⟨S48x20480, .i32⟩
  | .hbm, ⟨11, _⟩ => ⟨S48x20480, .i32⟩
  | .hbm, ⟨12, _⟩ => ⟨S_, .i32⟩
  | .hbm, ⟨13, _⟩ => ⟨S48x20480, .i32⟩
  | .hbm, ⟨14, _⟩ => ⟨S48x20480, .i32⟩
  | .hbm, ⟨15, _⟩ => ⟨S_, .i32⟩
  | .hbm, ⟨16, _⟩ => ⟨S48x20480, .i32⟩
  | .hbm, ⟨17, _⟩ => ⟨S48x20480, .i32⟩
  | .hbm, ⟨18, _⟩ => ⟨S_, .i32⟩
  | .hbm, ⟨19, _⟩ => ⟨S48x20480, .i32⟩
  | .hbm, ⟨20, _⟩ => ⟨S48x20480, .i32⟩
  | .hbm, ⟨21, _⟩ => ⟨S_, .i32⟩
  | .hbm, ⟨22, _⟩ => ⟨S48x20480, .i32⟩
  | .hbm, ⟨23, _⟩ => ⟨S48x20480, .i32⟩
  | .hbm, ⟨24, _⟩ => ⟨S_, .i32⟩
  | .hbm, ⟨25, _⟩ => ⟨S48x20480, .i32⟩
  | .hbm, ⟨26, _⟩ => ⟨S48x20480, .i32⟩
  | .hbm, ⟨27, _⟩ => ⟨S_, .i32⟩
  | .hbm, ⟨28, _⟩ => ⟨S48x20480, .i32⟩
  | .hbm, ⟨29, _⟩ => ⟨S48x20480, .i32⟩
  | .hbm, ⟨30, _⟩ => ⟨S48x1x20480, .i32⟩
  | .hbm, ⟨31, _⟩ => ⟨S48x1x20480, .i32⟩
  | .hbm, ⟨32, _⟩ => ⟨S48x1x20480, .i32⟩
  | .hbm, ⟨33, _⟩ => ⟨S48x1x20480, .i32⟩
  | .hbm, ⟨34, _⟩ => ⟨S48x4x20480, .i32⟩
  | .hbm, ⟨35, _⟩ => ⟨S192x20480, .i32⟩
  | .hbm, ⟨36, _⟩ => ⟨S20480x192, .i32⟩
  | .hbm, ⟨37, _⟩ => ⟨S_, .i32⟩
  | .hbm, ⟨38, _⟩ => ⟨S128x20480, .i32⟩
  | .hbm, ⟨39, _⟩ => ⟨S128x20480, .i32⟩
  | .hbm, ⟨40, _⟩ => ⟨S_, .i32⟩
  | .hbm, ⟨41, _⟩ => ⟨S128x20480, .i32⟩
  | .hbm, ⟨42, _⟩ => ⟨S128x20480, .i32⟩
  | .hbm, ⟨43, _⟩ => ⟨S256x20480, .i32⟩
  | .hbm, ⟨44, _⟩ => ⟨S20480x256, .i32⟩
  | .hbm, ⟨45, _⟩ => ⟨S20480x256, .f32⟩
  | .hbm, ⟨46, _⟩ => ⟨S256x192, .bf16⟩
  | .hbm, ⟨47, _⟩ => ⟨S256x192, .f32⟩
  | .hbm, ⟨48, _⟩ => ⟨S20480x192, .f32⟩
  | .hbm, ⟨49, _⟩ => ⟨S20480x192, .f32⟩
  | .hbm, ⟨50, _⟩ => ⟨S20480x1, .f32⟩
  | .hbm, ⟨51, _⟩ => ⟨S20480x192, .f32⟩
  | .hbm, ⟨52, _⟩ => ⟨S20480x192, .f32⟩
  | .hbm, ⟨53, _⟩ => ⟨S20480x1, .f32⟩
  | .hbm, ⟨54, _⟩ => ⟨S20480x192, .f32⟩
  | .hbm, ⟨55, _⟩ => ⟨S20480x192, .f32⟩
  | .hbm, ⟨56, _⟩ => ⟨S20480x192, .f32⟩
  | .hbm, ⟨57, _⟩ => ⟨S_, .f32⟩
  | .hbm, ⟨58, _⟩ => ⟨S20480, .f32⟩
  | .hbm, ⟨59, _⟩ => ⟨S_, .f32⟩
  | .hbm, ⟨60, _⟩ => ⟨S20480, .f32⟩
  | .hbm, ⟨61, _⟩ => ⟨S20480, .f32⟩
  | .hbm, ⟨62, _⟩ => ⟨S20480, .f32⟩
  | .hbm, ⟨63, _⟩ => ⟨S_, .f32⟩
  | .hbm, ⟨64, _⟩ => ⟨S20480x192, .f32⟩
  | .hbm, ⟨65, _⟩ => ⟨S20480x192, .f32⟩
  | .hbm, ⟨66, _⟩ => ⟨S20480, .f32⟩
  | .hbm, ⟨67, _⟩ => ⟨S_, .f32⟩
  | .hbm, ⟨68, _⟩ => ⟨S20480, .f32⟩
  | .hbm, ⟨69, _⟩ => ⟨S20480, .f32⟩
  | .hbm, ⟨70, _⟩ => ⟨S20480x1, .f32⟩
  | .hbm, ⟨71, _⟩ => ⟨S20480x192, .f32⟩
  | .hbm, ⟨72, _⟩ => ⟨S20480x192, .f32⟩
  | .hbm, ⟨73, _⟩ => ⟨S20480x192, .f32⟩
  | .hbm, ⟨74, _⟩ => ⟨S_, .f32⟩
  | .hbm, ⟨75, _⟩ => ⟨S20480, .f32⟩
  | .hbm, ⟨76, _⟩ => ⟨S_, .f32⟩
  | .hbm, ⟨77, _⟩ => ⟨S20480, .f32⟩
  | .hbm, ⟨78, _⟩ => ⟨S20480, .i1⟩
  | .hbm, ⟨79, _⟩ => ⟨S20480, .f32⟩
  | .hbm, ⟨80, _⟩ => ⟨S_, .f32⟩
  | .hbm, ⟨81, _⟩ => ⟨S20480, .f32⟩
  | .hbm, ⟨82, _⟩ => ⟨S20480, .f32⟩
  | .hbm, ⟨83, _⟩ => ⟨S_, .f32⟩
  | .hbm, ⟨84, _⟩ => ⟨S20480, .f32⟩
  | .hbm, ⟨85, _⟩ => ⟨S20480, .f32⟩
  | .hbm, ⟨86, _⟩ => ⟨S20480x1, .f32⟩
  | .hbm, ⟨87, _⟩ => ⟨S20480x192, .f32⟩
  | .hbm, ⟨88, _⟩ => ⟨S20480x192, .f32⟩
  | .hbm, ⟨89, _⟩ => ⟨S20480x1, .f32⟩
  | .hbm, ⟨90, _⟩ => ⟨S20480x192, .f32⟩
  | .hbm, ⟨91, _⟩ => ⟨S20480x192, .f32⟩
  | .hbm, ⟨92, _⟩ => ⟨S20480x192, .f32⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S20480x192, .f32⟩
  | .hbm, ⟨97, _⟩ => ⟨S20480x192, .f32⟩
  | .hbm, ⟨98, _⟩ => ⟨S_, .f32⟩
  | .hbm, ⟨99, _⟩ => ⟨S20480x192, .f32⟩
  | .hbm, ⟨100, _⟩ => ⟨S20480x192, .f32⟩
  | .hbm, ⟨101, _⟩ => ⟨S20480x192, .i32⟩
  | .hbm, ⟨102, _⟩ => ⟨S20480x192, .i8⟩
  | .hbm, ⟨103, _⟩ => ⟨S192x20480, .i8⟩
  | .hbm, ⟨104, _⟩ => ⟨S1x20480, .f32⟩
  | .hbm, ⟨105, _⟩ => ⟨S1x20480, .f32⟩
  | .hbm, ⟨106, _⟩ => ⟨S1x20480, .f32⟩
  | _, _ => ⟨S2x128x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_call0_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_c_17 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Proof.Row.lean ====
/- One table row's update, as formulas over the extended reals, and the laws that let the kernel compute it in
   another order: the features permuted, the counts split into bytes. -/
module

public import Idealize.ShloMosaic.Lib.Pipeline.ValueKit
public import Idealize.ShloMosaic.Lib.Pointwise

@[expose] public section

set_option maxRecDepth 16384

noncomputable section

open Idealize.ShloMosaic

namespace Cert.Row

/-- How often bag `b` looks the row up: the low half of entry `b`, or the high half of entry `b - 128`. -/
def count (cnt : Fin 128 → BitVec 32) (b : Fin 256) : BitVec 32 :=
  if h : b.val < 128 then cnt ⟨b.val, h⟩ &&& 65535#32 else cnt ⟨b.val - 128, by omega⟩ >>> 16

/-- Feature `d`'s code: byte `d % 4` of word `d / 4`. -/
def code (word : Fin 48 → BitVec 32) (d : Fin 192) : BitVec 32 :=
  (word ⟨d.val / 4, by omega⟩).sshiftRight (8 * (d.val % 4)) &&& 255#32

/-- The row's gradient: the sum over the bags that look it up. -/
def grad (cnt : Fin 128 → BitVec 32) (gr : Fin 256 → Fin 192 → EReal) (d : Fin 192) : EReal :=
  ∑ b, (((count cnt b).toInt : ℝ) : EReal) * gr b d

/-- The momentum after the step. -/
def mom (g : Fin 192 → EReal) (mo : EReal) : EReal := mo + Ideal.div (∑ d, g d * g d) (Ideal.ofBits .f32 0x43400000#32)

/-- An entry of the row after the step, from its code. -/
def weight (x : BitVec 32) (g sc bi mo : EReal) : EReal :=
  ((x.toInt : ℝ) : EReal) * sc + bi - Ideal.div (Ideal.ofBits .f32 0x3DCCCCCD#32 * g) (Ideal.sqrt mo + Ideal.ofBits .f32 0x322BCC77#32)

/-- The least entry. -/
def least (w : Fin 192 → EReal) : EReal := Finset.univ.fold min (Ideal.ofBits .f32 0x7F800000#32) w

/-- The greatest entry. -/
def greatest (w : Fin 192 → EReal) : EReal := Finset.univ.fold max (Ideal.ofBits .f32 0xFF800000#32) w

open Classical in
/-- The scale of the codes. -/
def scale (mx mn : EReal) : EReal := if mx = mn then 1 else Ideal.div (mx - mn) (Ideal.ofBits .f32 0x437F0000#32)

/-- The code of an entry, still 32 bits wide. -/
def quant (w mn sc : EReal) : BitVec 32 :=
  FloatOps.fptosi (F := Ideal) (φ := .f32) 32 (min (FloatOps.sitofp (F := Ideal) .f32 255#32) (max (FloatOps.sitofp (F := Ideal) .f32 0#32)
    (Ideal.liftRound Ideal.roundHalfEven (Ideal.div (w - mn) sc))))

theorem toIntClamped_bounds (lo hi : Int) (h : lo ≤ hi) (l u : Int) (hl : lo ≤ l) (hu : u ≤ hi) (hl0 : 0 ≤ l) (x : EReal) (h0 : ((l : ℝ) : EReal) ≤ x)
    (h1 : x ≤ ((u : ℝ) : EReal)) : l ≤ Ideal.toIntClamped lo hi x ∧ Ideal.toIntClamped lo hi x ≤ u := by
  induction x with
  | bot => exact absurd h0 (by simp)
  | top => exact absurd h1 (by simp)
  | coe r =>
    have a : (l : ℝ) ≤ r := EReal.coe_le_coe_iff.1 h0
    have b : r ≤ (u : ℝ) := EReal.coe_le_coe_iff.1 h1
    have r0 : (0 : ℝ) ≤ r := le_trans (by exact_mod_cast hl0) a
    have fa : l ≤ ⌊r⌋ := Int.le_floor.2 a
    have fb : ⌊r⌋ ≤ u := by
      have : (⌊r⌋ : ℝ) ≤ (u : ℝ) := le_trans (Int.floor_le r) b
      exact_mod_cast this
    show l ≤ max lo (min hi (if 0 ≤ r then ⌊r⌋ else ⌈r⌉)) ∧ max lo (min hi (if 0 ≤ r then ⌊r⌋ else ⌈r⌉)) ≤ u
    rw [if_pos r0]
    omega

/-- A code is below 256. -/
theorem quant_lt (w mn sc : EReal) : (quant w mn sc).toNat < 256 := by
  have e0 : FloatOps.sitofp (F := Ideal) .f32 (0#32 : BitVec 32) = (((0 : Int) : ℝ) : EReal) := rfl
  have e1 : FloatOps.sitofp (F := Ideal) .f32 (255#32 : BitVec 32) = (((255 : Int) : ℝ) : EReal) := rfl
  show (BitVec.ofInt 32 (Ideal.toIntClamped _ _ _)).toNat < 256
  rw [e0, e1]
  have hb := toIntClamped_bounds (-(2 ^ (32 - 1) : Nat)) ((2 ^ (32 - 1) : Nat) - 1) (by decide) 0 255 (by decide) (by decide) (by decide)
    (min (((255 : Int) : ℝ) : EReal) (max (((0 : Int) : ℝ) : EReal) (Ideal.liftRound Ideal.roundHalfEven (Ideal.div (w - mn) sc))))
    (le_min (EReal.coe_le_coe_iff.2 (by norm_num)) (le_max_left _ _)) (min_le_left _ _)
  generalize Ideal.toIntClamped _ _ _ = z at hb ⊢
  rw [BitVec.toNat_ofInt]
  omega

/-! ## The whole row -/

/-- The row's entries after the step. -/
def next (word : Fin 48 → BitVec 32) (cnt : Fin 128 → BitVec 32) (gr : Fin 256 → Fin 192 → EReal) (sc bi mo : EReal) (d : Fin 192) : EReal :=
  weight (code word d) (grad cnt gr d) sc bi (mom (grad cnt gr) mo)

/-- The scale of a row. -/
def scaleOf (w : Fin 192 → EReal) : EReal := scale (greatest w) (least w)

/-- The code of a row's feature `d`. -/
def codeOf (w : Fin 192 → EReal) (d : Fin 192) : BitVec 8 := (quant (w d) (least w) (scaleOf w)).setWidth 8

/-! ## The features in the kernel's order -/

/-- The feature in the kernel's row `r`: thirty-two features at a time, byte by byte, eight words at a time. -/
def feat : Fin 192 ≃ Fin 192 where
  toFun r := ⟨32 * (r.val / 32) + 4 * (r.val % 8) + r.val % 32 / 8, by omega⟩
  invFun d := ⟨32 * (d.val / 32) + 8 * (d.val % 4) + d.val % 32 / 4, by omega⟩
  left_inv := by decide
  right_inv := by decide

theorem feat_val (r : Fin 192) : (feat r).val = 32 * (r.val / 32) + 4 * (r.val % 8) + r.val % 32 / 8 := rfl

theorem mom_feat (g : Fin 192 → EReal) (mo : EReal) : mom (fun r => g (feat r)) mo = mom g mo := by
  unfold mom
  rw [Equiv.sum_comp feat fun d => g d * g d]

theorem fold_feat (op : EReal → EReal → EReal) [Std.Commutative op] [Std.Associative op] (b : EReal) (w : Fin 192 → EReal) :
    (Finset.univ : Finset (Fin 192)).fold op b (fun r => w (feat r)) = Finset.univ.fold op b w := by
  conv_rhs => rw [← Finset.map_univ_equiv feat, Finset.fold_map]
  rfl

theorem least_feat (w : Fin 192 → EReal) : least (fun r => w (feat r)) = least w := fold_feat min _ w
theorem greatest_feat (w : Fin 192 → EReal) : greatest (fun r => w (feat r)) = greatest w := fold_feat max _ w

/-! ## The gradient from the counts' bytes -/

/-- The number a byte of a count entry holds. -/
def byte (x : BitVec 32) (k : Nat) : EReal := ((((x >>> k) &&& 255#32).toInt : ℝ) : EReal)

theorem ofBits_256 : Ideal.ofBits .f32 0x43800000#32 = ((256 : ℝ) : EReal) := by
  simp [Ideal.ofBits, Ideal.ieee, -EReal.coe_mul]; norm_num

theorem toInt_byte (x : BitVec 32) (k : Nat) : ((x >>> k) &&& 255#32).toInt = ((x.toNat >>> k % 256 : Nat) : Int) := by
  have h : ((x >>> k) &&& 255#32).toNat = x.toNat >>> k % 256 := by
    rw [BitVec.toNat_and, BitVec.toNat_ushiftRight]
    exact Nat.and_two_pow_sub_one_eq_mod _ 8
  rw [BitVec.toInt_eq_toNat_of_lt (by rw [h]; omega), h]

theorem byte_eq (x : BitVec 32) (k : Nat) : byte x k = (((x.toNat >>> k % 256 : Nat) : ℝ) : EReal) := by
  rw [byte, toInt_byte]; norm_cast

theorem low_half (x : BitVec 32) : (x &&& 65535#32).toInt = ((x.toNat % 65536 : Nat) : Int) := by
  have h : (x &&& 65535#32).toNat = x.toNat % 65536 := by
    rw [BitVec.toNat_and]
    exact Nat.and_two_pow_sub_one_eq_mod _ 16
  rw [BitVec.toInt_eq_toNat_of_lt (by rw [h]; omega), h]

theorem high_half (x : BitVec 32) : (x >>> 16).toInt = ((x.toNat / 65536 : Nat) : Int) := by
  have h : (x >>> 16).toNat = x.toNat / 65536 := by
    rw [BitVec.toNat_ushiftRight, Nat.shiftRight_eq_div_pow]
  have := x.isLt
  rw [BitVec.toInt_eq_toNat_of_lt (by rw [h]; omega), h]

/-- A product with a count is the product with its low byte plus 256 times the product with its high byte. -/
theorem split (a : EReal) (n lo hi : Nat) (h : n = lo + 256 * hi) :
    (((n : Int) : ℝ) : EReal) * a = a * ((lo : ℝ) : EReal) + ((256 : ℝ) : EReal) * (a * ((hi : ℝ) : EReal)) := by
  subst h
  have e : ((((lo + 256 * hi : Nat) : Int) : ℝ) : EReal) = ((lo : ℝ) : EReal) + ((256 : ℝ) : EReal) * ((hi : ℝ) : EReal) := by
    rw [← EReal.coe_mul, ← EReal.coe_add]; push_cast; rfl
  have h0 : (0 : EReal) ≤ ((lo : ℝ) : EReal) := by exact_mod_cast Nat.zero_le lo
  have h1 : (0 : EReal) ≤ ((256 : ℝ) : EReal) * ((hi : ℝ) : EReal) := by
    rw [← EReal.coe_mul]; exact_mod_cast Nat.zero_le _
  rw [e, EReal.right_distrib_of_nonneg h0 h1, mul_comm a, mul_comm a, mul_assoc]

theorem mul_sum_256 {n : Nat} (f : Fin n → EReal) : ((256 : ℝ) : EReal) * ∑ x, f x = ∑ x, ((256 : ℝ) : EReal) * f x := by
  have h0 : (0 : EReal) ≤ ((256 : ℝ) : EReal) := by exact_mod_cast (by norm_num : (0 : ℝ) ≤ 256)
  induction (Finset.univ : Finset (Fin n)) using Finset.induction_on with
  | empty => simp
  | insert a s ha ih => rw [Finset.sum_insert ha, Finset.sum_insert ha, EReal.left_distrib_of_nonneg_of_ne_top h0 (EReal.coe_ne_top _), ih]

/-- The row's gradient from the four bytes of the count entries, as the kernel adds it up. -/
theorem grad_bytes (cnt : Fin 128 → BitVec 32) (gr : Fin 256 → Fin 192 → EReal) (d : Fin 192) :
    (∑ x : Fin 128, gr ⟨x.val, by omega⟩ d * byte (cnt x) 0 + ∑ x : Fin 128, gr ⟨128 + x.val, by omega⟩ d * byte (cnt x) 16)
      + ((256 : ℝ) : EReal) * (∑ x : Fin 128, gr ⟨x.val, by omega⟩ d * byte (cnt x) 8 + ∑ x : Fin 128, gr ⟨128 + x.val, by omega⟩ d * byte (cnt x) 24)
      = grad cnt gr d := by
  have h0 : (0 : EReal) ≤ ((256 : ℝ) : EReal) := by exact_mod_cast (by norm_num : (0 : ℝ) ≤ 256)
  have lo (x : Fin 128) : (((count cnt ⟨x.val, by omega⟩).toInt : ℝ) : EReal) * gr ⟨x.val, by omega⟩ d
      = gr ⟨x.val, by omega⟩ d * byte (cnt x) 0 + ((256 : ℝ) : EReal) * (gr ⟨x.val, by omega⟩ d * byte (cnt x) 8) := by
    rw [count, dif_pos x.isLt, low_half, byte_eq, byte_eq]
    refine split _ _ _ _ ?_
    simp only [Nat.shiftRight_eq_div_pow, Nat.reducePow, Nat.div_one, Fin.eta]
    omega
  have hi (x : Fin 128) : (((count cnt ⟨128 + x.val, by omega⟩).toInt : ℝ) : EReal) * gr ⟨128 + x.val, by omega⟩ d
      = gr ⟨128 + x.val, by omega⟩ d * byte (cnt x) 16 + ((256 : ℝ) : EReal) * (gr ⟨128 + x.val, by omega⟩ d * byte (cnt x) 24) := by
    have e : (⟨128 + x.val - 128, by omega⟩ : Fin 128) = x := Fin.ext (by simp)
    rw [count, dif_neg (by simp), e, high_half, byte_eq, byte_eq]
    refine split _ _ _ _ ?_
    have := (cnt x).isLt
    simp only [Nat.shiftRight_eq_div_pow, Nat.reducePow]
    omega
  rw [EReal.left_distrib_of_nonneg_of_ne_top h0 (EReal.coe_ne_top _), mul_sum_256, mul_sum_256, grad,
    Fin.sum_univ_two_halves 128 128 rfl, Finset.sum_congr rfl fun x _ => lo x, Finset.sum_congr rfl fun x _ => hi x,
    Finset.sum_add_distrib, Finset.sum_add_distrib]
  abel

end Cert.Row
-- ==== Proof.Pack.lean ====
/- The kernel's codes as words: the four bytes of a word read apart, and four codes packed into one. -/
module

public import proofs.«01_k».proof.Proof.Gen.KernelIdeal.Frame
public import proofs.«01_k».proof.Proof.Row
public import Idealize.ShloMosaic.Lib.BitcastFour
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen

/-! ## Packing -/

/-- Row `p` of the bytes is byte `p % 4` of the words' row `p / 4`. -/
theorem bytes_apply (w : IVec S8x512 32) (h : S8x512.Bitcasts 32 S32x512 8) (p : Fin 32) (y : Fin 512) :
    bitcast S32x512 8 w h (ix2 p y) = (w (ix2 ⟨p.val / 4, by omega⟩ y)).extractLsb' (8 * (p.val % 4)) 8 := by
  apply BitVec.eq_of_getLsbD_eq
  intro i hi
  rw [bitcast_getLsbD w h _ i hi (by decide), BitVec.getLsbD_extractLsb']
  have hrow : S32x512.row (ix2 p y) = p.val := rfl
  have ep : (S32x512.row (ix2 p y) * 8 + i) / 32 = p.val / 4 := by rw [hrow]; omega
  have eq : (S32x512.row (ix2 p y) * 8 + i) % 32 = 8 * (p.val % 4) + i := by rw [hrow]; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

theorem setWidth_setWidth (a : BitVec 32) (h : a.toNat < 256) : (a.setWidth 8).setWidth 32 = a := by
  apply BitVec.eq_of_toNat_eq
  simp only [BitVec.toNat_setWidth]
  omega

/-- Four codes below 256, each at its place in a word: byte `b` of the word is code `b`. -/
theorem join (a : Fin 4 → BitVec 32) (h : ∀ b, (a b).toNat < 256) (b : Fin 4) :
    (IntOp.ori (IntOp.ori (IntOp.ori (a 0) (IntOp.shli .vector (a 1) 8#32)) (IntOp.shli .vector (a 2) 16#32))
      (IntOp.shli .vector (a 3) 24#32)).extractLsb' (8 * b.val) 8 = (a b).setWidth 8 := by
  have e := fun q hq => four_bytes_getLsbD (fun b => (a b).setWidth 8) q hq
  simp only [setWidth_setWidth _ (h _)] at e
  apply BitVec.eq_of_getLsbD_eq
  intro i hi
  rw [BitVec.getLsbD_extractLsb']
  simp only [hi, decide_true, Bool.true_and]
  refine (e (8 * b.val + i) (by omega)).trans ?_
  have eb : (⟨(8 * b.val + i) / 8, by omega⟩ : Fin 4) = b := Fin.ext (by simp only; omega)
  rw [eb, show (8 * b.val + i) % 8 = i by omega]

/-- The row of the codes that row `p` of a stored piece holds, the piece starting at row `o`. -/
def src (o : Nat) (ho : o + 32 ≤ 192) (p : Fin 32) : Fin 192 := ⟨o + 8 * (p.val % 4) + p.val / 4, by omega⟩

/-- A stored piece: its row `p` is the code in row `src o p`. -/
theorem piece (q : IVec S192x512 32) (hq : ∀ i, (q i).toNat < 256) (o : Nat) (ho : o + 32 ≤ 192) (w : IVec S8x512 32)
    (h : S8x512.Bitcasts 32 S32x512 8) (p : Fin 32) (y : Fin 512)
    (hw : ∀ a : Fin 8, w (ix2 a y) = IntOp.ori (IntOp.ori (IntOp.ori (q (ix2 ⟨o + a.val, by omega⟩ y))
        (IntOp.shli .vector (q (ix2 ⟨o + 8 + a.val, by omega⟩ y)) 8#32)) (IntOp.shli .vector (q (ix2 ⟨o + 16 + a.val, by omega⟩ y)) 16#32))
        (IntOp.shli .vector (q (ix2 ⟨o + 24 + a.val, by omega⟩ y)) 24#32)) :
    bitcast S32x512 8 w h (ix2 p y) = (q (ix2 (src o ho p) y)).setWidth 8 := by
  rw [bytes_apply, hw]
  exact join (fun b => q (ix2 ⟨o + 8 * b.val + p.val / 4, by omega⟩ y)) (fun b => hq _) ⟨p.val % 4, by omega⟩

theorem pay34_apply (g : FVec Ideal S192x512 .f32) (st : FVec Ideal S1x512 .f32) (w : FVec Ideal S192x512 .f32)
    (hq : ∀ i, (k0_pay33 g st w i).toNat < 256) (p : Fin 32) (y : Fin 512) :
    k0_pay34 g st w (ix2 p y) = (k0_pay33 g st w (ix2 (src 0 (by decide) p) y)).setWidth 8 := by
  unfold k0_pay34
  generalize k0_pay33 g st w = q at hq ⊢
  refine piece q hq 0 _ _ _ p y fun a => ?_
  pointwise

theorem pay37_apply (g : FVec Ideal S192x512 .f32) (st : FVec Ideal S1x512 .f32) (w : FVec Ideal S192x512 .f32)
    (hq : ∀ i, (k0_pay33 g st w i).toNat < 256) (p : Fin 32) (y : Fin 512) :
    k0_pay37 (k0_pay33 g st w) (k0_pay35 g st w) (k0_pay36 g st w) (ix2 p y)
      = (k0_pay33 g st w (ix2 (src 32 (by decide) p) y)).setWidth 8 := by
  unfold k0_pay37 k0_pay35 k0_pay36
  generalize k0_pay33 g st w = q at hq ⊢
  refine piece q hq 32 _ _ _ p y fun a => ?_
  pointwise

theorem pay38_apply (q : IVec S192x512 32) (hq : ∀ i, (q i).toNat < 256) (p : Fin 32) (y : Fin 512) :
    k0_pay38 q (ix2 p y) = (q (ix2 (src 64 (by decide) p) y)).setWidth 8 := by
  unfold k0_pay38
  refine piece q hq 64 _ _ _ p y fun a => ?_
  pointwise

theorem pay39_apply (q : IVec S192x512 32) (hq : ∀ i, (q i).toNat < 256) (p : Fin 32) (y : Fin 512) :
    k0_pay39 q (ix2 p y) = (q (ix2 (src 96 (by decide) p) y)).setWidth 8 := by
  unfold k0_pay39
  refine piece q hq 96 _ _ _ p y fun a => ?_
  pointwise

theorem pay1_apply (q : IVec S192x512 32) (hq : ∀ i, (q i).toNat < 256) (p : Fin 32) (y : Fin 512) :
    k0_pay1 q (k0_pay40 q) (k0_pay41 q) (ix2 p y) = (q (ix2 (src 128 (by decide) p) y)).setWidth 8 := by
  unfold k0_pay1 k0_pay40 k0_pay41
  refine piece q hq 128 _ _ _ p y fun a => ?_
  pointwise

theorem pay2_apply (q : IVec S192x512 32) (hq : ∀ i, (q i).toNat < 256) (p : Fin 32) (y : Fin 512) :
    k0_pay2 q (ix2 p y) = (q (ix2 (src 160 (by decide) p) y)).setWidth 8 := by
  unfold k0_pay2
  refine piece q hq 160 _ _ _ p y fun a => ?_
  pointwise

/-! ## Unpacking -/

/-- A byte of a word, as the kernel takes it, is the code. -/
theorem take (word : Fin 48 → BitVec 32) (r : Fin 192) (j : Fin 48) (k : Nat) (hj : j.val = 8 * (r.val / 32) + r.val % 8) (hk : k = r.val % 32 / 8) :
    IntOp.andi (IntOp.shrsi .vector (word j) (BitVec.ofNat 32 (8 * k))) 255#32 = Row.code word (Row.feat r) := by
  have e : (⟨(Row.feat r).val / 4, by omega⟩ : Fin 48) = j := Fin.ext (by simp only [Row.feat_val]; omega)
  have e' : (Row.feat r).val % 4 = k := by rw [Row.feat_val]; omega
  have hk4 : k < 4 := by omega
  have hs : IntOp.shrsi .vector (word j) (BitVec.ofNat 32 (8 * k)) = (word j).sshiftRight (8 * k) := by
    have ht : (BitVec.ofNat 32 (8 * k)).toNat = 8 * k := by rw [BitVec.toNat_ofNat]; omega
    unfold IntOp.shrsi
    rw [if_pos (by omega)]
    show (word j).sshiftRight (BitVec.ofNat 32 (8 * k)).toNat = _
    rw [ht]
  rw [hs, Row.code, e, e']
  rfl

/-- A stack of 24 pieces of eight rows, at a row. -/
theorem stack_apply (f : Fin 24 → IVec S8x512 32)
    (h : Shape.Concatenates ((List.ofFn fun n : Fin 24 => (⟨S8x512, f n⟩ : (s : Shape) × (s.Idx → BitVec 32))).map (·.1)) S192x512 0)
    (r : Fin 192) (y : Fin 512) :
    concatenate S192x512 0 (List.ofFn fun n : Fin 24 => (⟨S8x512, f n⟩ : (s : Shape) × (s.Idx → BitVec 32))) h (ix2 r y)
      = f ⟨r.val / 8, by omega⟩ (ix2 ⟨r.val % 8, by omega⟩ y) := by
  refine concatenate_ofFn_apply 0 f h rfl 8 rfl _ ⟨r.val / 8, by omega⟩ rfl _ rfl fun b hb => ?_
  match b with
  | ⟨0, _⟩ => exact absurd rfl hb
  | ⟨1, _⟩ => rfl

/-- One byte of each of eight rows of words. -/
abbrev shifted (w : Vec Ideal S8x512 .i32) (k : BitVec 32) : IVec S8x512 32 := andi (shrsi w (broadcast S8x512 k)) (broadcast S8x512 255#32)

/-- The stacked pieces: the words' rows eight at a time, each byte by byte. -/
def pieces (x0 : Vec Ideal S48x512 .i32) : Fin 24 → IVec S8x512 32 :=
  ![k0_pay8 (F := Ideal) (View.ld x0 r0_3), k0_pay9 (F := Ideal) (View.ld x0 r0_3), k0_pay10 (F := Ideal) (View.ld x0 r0_3), k0_pay11 (F := Ideal) (View.ld x0 r0_3),
    k0_pay12 (F := Ideal) (View.ld x0 r0_4), k0_pay14 (F := Ideal) (View.ld x0 r0_4) k0_pay13, k0_pay15 (F := Ideal) (View.ld x0 r0_4), k0_pay16 (F := Ideal) (View.ld x0 r0_4),
    k0_pay17 (F := Ideal) (View.ld x0 r0_5), k0_pay18 (F := Ideal) (View.ld x0 r0_5), k0_pay19 (F := Ideal) (View.ld x0 r0_5), k0_pay20 (F := Ideal) (View.ld x0 r0_5),
    k0_pay21 (F := Ideal) (View.ld x0 r0_6), k0_pay22 (F := Ideal) (View.ld x0 r0_6), k0_pay23 (F := Ideal) (View.ld x0 r0_6), k0_pay24 (F := Ideal) (View.ld x0 r0_6),
    k0_pay25 (F := Ideal) (View.ld x0 r0_7), k0_pay26 (F := Ideal) (View.ld x0 r0_7), andi (k0_pay27 (F := Ideal) (View.ld x0 r0_7)) k0_pay28,
    shifted (View.ld x0 r0_7) 24#32, shifted (View.ld x0 r0_8) 0#32, shifted (View.ld x0 r0_8) 8#32, shifted (View.ld x0 r0_8) 16#32, shifted (View.ld x0 r0_8) 24#32]

theorem pieces_apply (x0 : Vec Ideal S48x512 .i32) (n : Fin 24) (a : Fin 8) (y : Fin 512) :
    pieces x0 n (ix2 a y)
      = IntOp.andi (IntOp.shrsi .vector (x0 (ix2 ⟨8 * (n.val / 4) + a.val, by omega⟩ y)) (BitVec.ofNat 32 (8 * (n.val % 4)))) 255#32 := by
  fin_cases n
  · show (k0_pay8 (F := Ideal) (View.ld x0 r0_3)) (ix2 a y) = _
    pointwise [k0_pay8]
  · show (k0_pay9 (F := Ideal) (View.ld x0 r0_3)) (ix2 a y) = _
    pointwise [k0_pay9]
  · show (k0_pay10 (F := Ideal) (View.ld x0 r0_3)) (ix2 a y) = _
    pointwise [k0_pay10]
  · show (k0_pay11 (F := Ideal) (View.ld x0 r0_3)) (ix2 a y) = _
    pointwise [k0_pay11]
  · show (k0_pay12 (F := Ideal) (View.ld x0 r0_4)) (ix2 a y) = _
    pointwise [k0_pay12]
  · show (k0_pay14 (F := Ideal) (View.ld x0 r0_4) k0_pay13) (ix2 a y) = _
    pointwise [k0_pay14, k0_pay13]
  · show (k0_pay15 (F := Ideal) (View.ld x0 r0_4)) (ix2 a y) = _
    pointwise [k0_pay15]
  · show (k0_pay16 (F := Ideal) (View.ld x0 r0_4)) (ix2 a y) = _
    pointwise [k0_pay16]
  · show (k0_pay17 (F := Ideal) (View.ld x0 r0_5)) (ix2 a y) = _
    pointwise [k0_pay17]
  · show (k0_pay18 (F := Ideal) (View.ld x0 r0_5)) (ix2 a y) = _
    pointwise [k0_pay18]
  · show (k0_pay19 (F := Ideal) (View.ld x0 r0_5)) (ix2 a y) = _
    pointwise [k0_pay19]
  · show (k0_pay20 (F := Ideal) (View.ld x0 r0_5)) (ix2 a y) = _
    pointwise [k0_pay20]
  · show (k0_pay21 (F := Ideal) (View.ld x0 r0_6)) (ix2 a y) = _
    pointwise [k0_pay21]
  · show (k0_pay22 (F := Ideal) (View.ld x0 r0_6)) (ix2 a y) = _
    pointwise [k0_pay22]
  · show (k0_pay23 (F := Ideal) (View.ld x0 r0_6)) (ix2 a y) = _
    pointwise [k0_pay23]
  · show (k0_pay24 (F := Ideal) (View.ld x0 r0_6)) (ix2 a y) = _
    pointwise [k0_pay24]
  · show (k0_pay25 (F := Ideal) (View.ld x0 r0_7)) (ix2 a y) = _
    pointwise [k0_pay25]
  · show (k0_pay26 (F := Ideal) (View.ld x0 r0_7)) (ix2 a y) = _
    pointwise [k0_pay26]
  · show (andi (k0_pay27 (F := Ideal) (View.ld x0 r0_7)) k0_pay28) (ix2 a y) = _
    pointwise [k0_pay27, k0_pay28]
  · show (shifted (View.ld x0 r0_7) 24#32) (ix2 a y) = _
    pointwise [shifted]
  · show (shifted (View.ld x0 r0_8) 0#32) (ix2 a y) = _
    pointwise [shifted]
  · show (shifted (View.ld x0 r0_8) 8#32) (ix2 a y) = _
    pointwise [shifted]
  · show (shifted (View.ld x0 r0_8) 16#32) (ix2 a y) = _
    pointwise [shifted]
  · show (shifted (View.ld x0 r0_8) 24#32) (ix2 a y) = _
    pointwise [shifted]

/-- The entries of the rows the kernel starts from. -/
theorem pay46_apply (x0 : Vec Ideal S48x512 .i32) (x1 : Vec Ideal S128x512 .i32) (x2 : FVec Ideal S192x256 .bf16) (x3 x4 x5 : FVec Ideal S1x512 .f32) (r : Fin 192) (y : Fin 512) :
    k0_pay46 (F := Ideal) x0 x1 x2 x3 x4 x5 (ix2 r y)
      = (((Row.code (fun j => x0 (ix2 j y)) (Row.feat r)).toInt : ℝ) : EReal) * x3 (ix2 0 y) + x4 (ix2 0 y) := by
  have hs := stack_apply (pieces x0) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S192x512_d0 r y
  rw [pieces_apply] at hs
  have hc := hs.trans (take (fun j => x0 (ix2 j y)) r ⟨8 * (r.val / 8 / 4) + r.val % 8, by omega⟩ (r.val / 8 % 4) (by simp only; omega) (by omega))
  unfold k0_pay46 k0_pay29
  change addf (mulf (sitofp .f32 (concatenate S192x512 0 (List.ofFn fun n : Fin 24 => (⟨S8x512, pieces x0 n⟩ : (s : Shape) × (s.Idx → BitVec 32))) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S192x512_d0))
    (broadcastTo S192x512 _ broadcasts_S1x512_S192x512))
    (broadcastTo S192x512 _ broadcasts_S1x512_S192x512) (ix2 r y) = _
  generalize concatenate S192x512 0 (List.ofFn fun n : Fin 24 => (⟨S8x512, pieces x0 n⟩ : (s : Shape) × (s.Idx → BitVec 32))) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S192x512_d0 = cc at hc ⊢
  pointwise
  rw [hc]
  rfl

end Cert.KernelIdeal.Value
-- ==== Proof.Pay.lean ====
/- What the kernel's body computes for one table row, entry by entry. -/
module

public import proofs.«01_k».proof.Proof.Pack

@[expose] public section

set_option maxRecDepth 16384

noncomputable section

open Idealize.ShloMosaic Idealize.ShloMosaic.TcCoe Idealize.SL.Sem

namespace Cert.KernelIdeal.Value
open Cert.KernelIdeal Cert.KernelIdeal.Gen

/-! ## One value from the values before it -/

theorem pay3_apply (v0 : Vec Ideal S128x512 .i32) (gt : Vec Ideal S192x256 .bf16) (gr : Fin 256 → Fin 192 → EReal)
    (hgt : ∀ r k, gt (ix2 r k) = gr k (Row.feat r)) (r : Fin 192) (y : Fin 512) :
    k0_pay3 (F := Ideal) v0 gt gt (ix2 r y) = Row.grad (fun j => v0 (ix2 j y)) gr (Row.feat r) := by
  pointwise [k0_pay3]
  rw [← Row.grad_bytes, ← Row.ofBits_256]
  simp only [hgt]
  rfl

theorem pay6_apply (mo : FVec Ideal S1x512 .f32) (g2 : FVec Ideal S192x512 .f32) (g : Fin 192 → EReal) (y : Fin 512)
    (h : ∀ r, g2 (ix2 r y) = g (Row.feat r) * g (Row.feat r)) :
    k0_pay6 mo g2 (ix2 0 y) = Row.mom g (mo (ix2 0 y)) := by
  rw [← Row.mom_feat]
  pointwise [k0_pay6]
  simp only [h]
  rfl

theorem pay7_apply (mo : FVec Ideal S1x512 .f32) (g2 : FVec Ideal S192x512 .f32) (y : Fin 512) :
    k0_pay7 mo g2 (ix2 0 y) = Ideal.sqrt (k0_pay6 mo g2 (ix2 0 y)) + Ideal.ofBits .f32 0x322BCC77#32 := by
  unfold k0_pay7
  generalize k0_pay6 mo g2 = m
  pointwise

theorem pay30_apply (g : FVec Ideal S192x512 .f32) (st : FVec Ideal S1x512 .f32) (w : FVec Ideal S192x512 .f32) (r : Fin 192) (y : Fin 512) :
    k0_pay30 g st w (ix2 r y) = w (ix2 r y) - Ideal.div (Ideal.ofBits .f32 0x3DCCCCCD#32 * g (ix2 r y)) (st (ix2 0 y)) := by
  pointwise [k0_pay30]

theorem pay31_apply (g : FVec Ideal S192x512 .f32) (st : FVec Ideal S1x512 .f32) (w : FVec Ideal S192x512 .f32) (y : Fin 512) :
    k0_pay31 g st w (ix2 0 y) = Row.least fun r => k0_pay30 g st w (ix2 r y) := by
  unfold k0_pay31
  generalize k0_pay30 g st w = nw
  pointwise
  rfl

theorem pay32_apply (g : FVec Ideal S192x512 .f32) (st : FVec Ideal S1x512 .f32) (w : FVec Ideal S192x512 .f32) (y : Fin 512) :
    k0_pay32 g st w (ix2 0 y) = Row.scale (Row.greatest fun r => k0_pay30 g st w (ix2 r y)) (k0_pay31 g st w (ix2 0 y)) := by
  unfold k0_pay32
  generalize k0_pay31 g st w = mn
  generalize k0_pay30 g st w = nw
  pointwise
  unfold Row.scale Row.greatest
  split <;> rfl

theorem pay33_apply (g : FVec Ideal S192x512 .f32) (st : FVec Ideal S1x512 .f32) (w : FVec Ideal S192x512 .f32) (r : Fin 192) (y : Fin 512) :
    k0_pay33 g st w (ix2 r y) = Row.quant (k0_pay30 g st w (ix2 r y)) (k0_pay31 g st w (ix2 0 y)) (k0_pay32 g st w (ix2 0 y)) := by
  unfold k0_pay33
  generalize k0_pay32 g st w = sc
  generalize k0_pay31 g st w = mn
  generalize k0_pay30 g st w = nw
  pointwise
  rfl

/-! ## The values from the blocks -/

section
variable (x0 : Vec Ideal S48x512 .i32) (x1 : Vec Ideal S128x512 .i32) (x2 : Vec Ideal S192x256 .bf16) (x3 x4 x5 : Vec Ideal S1x512 .f32)
  (gr : Fin 256 → Fin 192 → EReal) (hgt : ∀ r k, x2 (ix2 r k) = gr k (Row.feat r))

/-- The entries after the step of the row in column `y` of the blocks. -/
def col (y : Fin 512) : Fin 192 → EReal :=
  Row.next (fun j => x0 (ix2 j y)) (fun j => x1 (ix2 j y)) gr (x3 (ix2 0 y)) (x4 (ix2 0 y)) (x5 (ix2 0 y))

include hgt in
theorem pay42_apply (r : Fin 192) (y : Fin 512) :
    k0_pay42 x0 x1 x2 x3 x4 x5 (ix2 r y) = Row.grad (fun j => x1 (ix2 j y)) gr (Row.feat r) := by
  refine (pay3_apply (View.ld x1 r0_0) (View.ld x2 r0_1) gr (fun r k => ?_) r y).trans ?_
  · refine Eq.trans ?_ (hgt r k)
    pointwise
  · congr 1
    funext j
    pointwise

include hgt in
theorem pay6_mom (y : Fin 512) :
    k0_pay6 (k0_pay43 x0 x1 x2 x3 x4 x5) (k0_pay44 x0 x1 x2 x3 x4 x5) (ix2 0 y)
      = Row.mom (Row.grad (fun j => x1 (ix2 j y)) gr) (x5 (ix2 0 y)) := by
  rw [pay6_apply _ _ (Row.grad (fun j => x1 (ix2 j y)) gr) y fun r => ?_]
  · congr 1
    unfold k0_pay43
    pointwise [k0_pay4]
  · rw [← pay42_apply x0 x1 x2 x3 x4 x5 gr hgt]
    unfold k0_pay44 k0_pay42 k0_pay5
    generalize k0_pay3 (F := Ideal) _ _ _ = g
    pointwise

include hgt in
theorem pay30_next (r : Fin 192) (y : Fin 512) :
    k0_pay30 (k0_pay42 x0 x1 x2 x3 x4 x5) (k0_pay45 x0 x1 x2 x3 x4 x5) (k0_pay46 x0 x1 x2 x3 x4 x5) (ix2 r y)
      = col x0 x1 x3 x4 x5 gr y (Row.feat r) := by
  rw [pay30_apply, pay42_apply x0 x1 x2 x3 x4 x5 gr hgt, pay46_apply, k0_pay45, pay7_apply, pay6_mom x0 x1 x2 x3 x4 x5 gr hgt]
  rfl

include hgt in
theorem pay31_least (y : Fin 512) :
    k0_pay31 (k0_pay42 x0 x1 x2 x3 x4 x5) (k0_pay45 x0 x1 x2 x3 x4 x5) (k0_pay46 x0 x1 x2 x3 x4 x5) (ix2 0 y)
      = Row.least (col x0 x1 x3 x4 x5 gr y) := by
  rw [pay31_apply]
  simp only [pay30_next x0 x1 x2 x3 x4 x5 gr hgt]
  exact Row.least_feat _

include hgt in
theorem pay32_scale (y : Fin 512) :
    k0_pay32 (k0_pay42 x0 x1 x2 x3 x4 x5) (k0_pay45 x0 x1 x2 x3 x4 x5) (k0_pay46 x0 x1 x2 x3 x4 x5) (ix2 0 y)
      = Row.scaleOf (col x0 x1 x3 x4 x5 gr y) := by
  rw [pay32_apply, pay31_least x0 x1 x2 x3 x4 x5 gr hgt]
  simp only [pay30_next x0 x1 x2 x3 x4 x5 gr hgt]
  rw [Row.greatest_feat fun d => col x0 x1 x3 x4 x5 gr y d]
  rfl

include hgt in
theorem pay33_quant (r : Fin 192) (y : Fin 512) :
    k0_pay33 (k0_pay42 x0 x1 x2 x3 x4 x5) (k0_pay45 x0 x1 x2 x3 x4 x5) (k0_pay46 x0 x1 x2 x3 x4 x5) (ix2 r y)
      = Row.quant (col x0 x1 x3 x4 x5 gr y (Row.feat r)) (Row.least (col x0 x1 x3 x4 x5 gr y)) (Row.scaleOf (col x0 x1 x3 x4 x5 gr y)) := by
  rw [pay33_apply, pay30_next x0 x1 x2 x3 x4 x5 gr hgt, pay31_least x0 x1 x2 x3 x4 x5 gr hgt, pay32_scale x0 x1 x2 x3 x4 x5 gr hgt]

theorem pay33_lt (i : S192x512.Idx) :
    (k0_pay33 (k0_pay42 x0 x1 x2 x3 x4 x5) (k0_pay45 x0 x1 x2 x3 x4 x5) (k0_pay46 x0 x1 x2 x3 x4 x5) i).toNat < 256 := by
  obtain ⟨r, y, rfl⟩ : ∃ r y, i = ix2 r y := ⟨_, _, eq_ix2 i⟩
  rw [pay33_apply]
  exact Row.quant_lt _ _ _

/-- The code in row `src o p` of the codes is that of feature `o + p`, where `o` is a multiple of 32. -/
theorem feat_src (o : Nat) (ho : o + 32 ≤ 192) (h32 : o % 32 = 0) (p : Fin 32) : Row.feat (src o ho p) = ⟨o + p.val, by omega⟩ := by
  apply Fin.ext
  rw [Row.feat_val]
  have hv : (src o ho p).val = o + 8 * (p.val % 4) + p.val / 4 := rfl
  have hs : (src o ho p).val / 32 = o / 32 := by omega
  have hm : (src o ho p).val % 32 = 8 * (p.val % 4) + p.val / 4 := by omega
  have h8 : (src o ho p).val % 8 = p.val / 4 := by omega
  have hd : (src o ho p).val % 32 / 8 = p.val % 4 := by omega
  show 32 * ((src o ho p).val / 32) + 4 * ((src o ho p).val % 8) + (src o ho p).val % 32 / 8 = o + p.val
  omega

end

end Cert.KernelIdeal.Value
-- ==== Proof.Array.lean ====
/- The kernel's four result arrays, as functions of its arguments. -/
module

public import proofs.«01_k».proof.Proof.Pay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-! ## The results as functions of the arguments -/

/-- The gradient of bag `b`, feature `d`. -/
def bag (gr : FVec Ideal S2x128x192 .bf16) (b : Fin 256) (d : Fin 192) : EReal := gr (ix3 ⟨b.val / 128, by omega⟩ ⟨b.val % 128, by omega⟩ d)

/-- The gradient of table row `u`. -/
def rowGrad (gr : FVec Ideal S2x128x192 .bf16) (cn : IVec S128x20480 32) (u : Fin 20480) : Fin 192 → EReal :=
  Row.grad (fun j => cn (ix2 j u)) (bag gr)

/-- The entries of table row `u` after the step. -/
def row (gr : FVec Ideal S2x128x192 .bf16) (wd : IVec S48x20480 32) (cn : IVec S128x20480 32) (sc bi mo : FVec Ideal S20480 .f32) (u : Fin 20480) : Fin 192 → EReal :=
  Row.next (fun j => wd (ix2 j u)) (fun j => cn (ix2 j u)) (bag gr) (sc (ix1 u)) (bi (ix1 u)) (mo (ix1 u))

/-- The codes. -/
def codesG (gr : FVec Ideal S2x128x192 .bf16) (wd : IVec S48x20480 32) (cn : IVec S128x20480 32) (sc bi mo : FVec Ideal S20480 .f32) : IVec S192x20480 8 :=
  fun i => Row.codeOf (row gr wd cn sc bi mo (i 1)) (i 0)

/-- The scales. -/
def scaleG (gr : FVec Ideal S2x128x192 .bf16) (wd : IVec S48x20480 32) (cn : IVec S128x20480 32) (sc bi mo : FVec Ideal S20480 .f32) : FVec Ideal S1x20480 .f32 :=
  fun i => Row.scaleOf (row gr wd cn sc bi mo (i 1))

/-- The biases. -/
def biasG (gr : FVec Ideal S2x128x192 .bf16) (wd : IVec S48x20480 32) (cn : IVec S128x20480 32) (sc bi mo : FVec Ideal S20480 .f32) : FVec Ideal S1x20480 .f32 :=
  fun i => Row.least (row gr wd cn sc bi mo (i 1))

/-- The momenta. -/
def momG (gr : FVec Ideal S2x128x192 .bf16) (cn : IVec S128x20480 32) (mo : FVec Ideal S20480 .f32) : FVec Ideal S1x20480 .f32 :=
  fun i => Row.mom (rowGrad gr cn (i 1)) (mo (ix1 (i 1)))

/-! ## The blocks of the arguments -/

variable (m : (ℓ : Loc nD τ sig) → Buf (Elt Ideal) ℓ)

abbrev aG (c : Dev nD) : FVec Ideal S2x128x192 .bf16 := m ((c.tc : Thread nD τ).loc main_arg0)
abbrev aW (c : Dev nD) : IVec S48x20480 32 := m ((c.tc : Thread nD τ).loc main_arg1)
abbrev aC (c : Dev nD) : IVec S128x20480 32 := m ((c.tc : Thread nD τ).loc main_arg2)
abbrev aS (c : Dev nD) : FVec Ideal S20480 .f32 := m ((c.tc : Thread nD τ).loc main_arg3)
abbrev aB (c : Dev nD) : FVec Ideal S20480 .f32 := m ((c.tc : Thread nD τ).loc main_arg4)
abbrev aM (c : Dev nD) : FVec Ideal S20480 .f32 := m ((c.tc : Thread nD τ).loc main_arg5)

/-- The windows' blocks: block `t` of a column window is its columns from `512 t` on. -/
theorem idx : ∀ t : Fin cfg0.N, win0_0.index t = ![0, t.val] ∧ win0_1.index t = ![0, t.val] ∧ win0_2.index t = ![0, 0]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] ∧ win0_9.index t = ![0, t.val] :=
  (by decide +kernel : ∀ t : Fin grid0.N, _)

section
variable (c : Dev nD) (t : Fin cfg0.N) (y : Fin 512) (u : Fin 20480) (hu : u.val = 512 * t.val + y.val)

include hu in
theorem blk0 (j : Fin 48) : iblk m c 0 t (ix2 j y) = aW m c (ix2 j u) := by
  blk_ext [iblk, V, idx t]

include hu in
theorem blk1 (j : Fin 128) : iblk m c 1 t (ix2 j y) = aC m c (ix2 j u) := by
  blk_ext [iblk, V, idx t]

theorem blk2 (r : Fin 192) (k : Fin 256) : iblk m c 2 t (ix2 r k) = bag (aG m c) k (Row.feat r) := by
  have e : V m c main_v2 (ix2 r k) = bag (aG m c) k (Row.feat r) := by
    entry_read
    unfold bag
    have hv := Row.feat_val r
    generalize Row.feat r = d at hv ⊢
    have hd : r.val / 8 % 4 = r.val % 32 / 8 := by
      have := Nat.div_div_eq_div_mul r.val 8 4
      omega
    pointwise
    blk_ext
  refine Eq.trans ?_ e
  blk_ext [iblk, idx t]

include hu in
theorem blk3 : iblk m c 3 t (ix2 0 y) = aS m c (ix1 u) := by
  have e : V m c main_v3 (ix2 0 u) = aS m c (ix1 u) := by entry_read; pointwise
  refine Eq.trans ?_ e
  blk_ext [iblk, idx t]

include hu in
theorem blk4 : iblk m c 4 t (ix2 0 y) = aB m c (ix1 u) := by
  have e : V m c main_v4 (ix2 0 u) = aB m c (ix1 u) := by entry_read; pointwise
  refine Eq.trans ?_ e
  blk_ext [iblk, idx t]

include hu in
theorem blk5 : iblk m c 5 t (ix2 0 y) = aM m c (ix1 u) := by
  have e : V m c main_v5 (ix2 0 u) = aM m c (ix1 u) := by entry_read; pointwise
  refine Eq.trans ?_ e
  blk_ext [iblk, idx t]

include hu in
/-- The row in column `y` of block `t` is table row `u`. -/
theorem col_eq : col (iblk m c 0 t) (iblk m c 1 t) (iblk m c 3 t) (iblk m c 4 t) (iblk m c 5 t) (bag (aG m c)) y
    = row (aG m c) (aW m c) (aC m c) (aS m c) (aB m c) (aM m c) u := by
  unfold col row
  rw [blk3 m c t y u hu, blk4 m c t y u hu, blk5 m c t y u hu, funext (blk0 m c t y u hu), funext (blk1 m c t y u hu)]

end

/-! ## The arrays after the run -/

theorem row0 (y : S1x512.Idx) : ∃ k : Fin 512, y = ix2 0 k :=
  ⟨y 1, (eq_ix2 y).trans (by congr 1; exact Fin.ext (Nat.lt_one_iff.1 (y 0).isLt))⟩

/-- The scales. -/
theorem final7 (c : Dev nD) : (dats m 0 c).arrAt 7 (cfgs 0).N = scaleG (aG m c) (aW m c) (aC m c) (aS m c) (aB m c) (aM m c) := by
  refine (dats m 0 c).arrAt_eq_of_covers 7 _ (by decide +kernel) fun t _ y => ?_
  have ht : t.val < 40 := t.isLt
  obtain ⟨k, rfl⟩ : ∃ k : Fin 512, y = (ix2 0 k : S1x512.Idx) := row0 y
  have hi : (((cfg0.win 7).blk t).view.emb (ix2 0 k : S1x512.Idx) : S1x20480.Idx) = ix2 0 (⟨512 * t.val + k.val, by omega⟩ : Fin 20480) := by blk_ext [idx t]
  rw [hi]
  blk_simp
  rw [after0_7]
  frame_out
  refine (pay32_scale _ _ _ _ _ _ (bag (aG m c)) (blk2 m c t) k).trans ?_
  rw [col_eq m c t k ⟨512 * t.val + k.val, by omega⟩ rfl]
  rfl

/-- The biases. -/
theorem final8 (c : Dev nD) : (dats m 0 c).arrAt 8 (cfgs 0).N = biasG (aG m c) (aW m c) (aC m c) (aS m c) (aB m c) (aM m c) := by
  refine (dats m 0 c).arrAt_eq_of_covers 8 _ (by decide +kernel) fun t _ y => ?_
  have ht : t.val < 40 := t.isLt
  obtain ⟨k, rfl⟩ : ∃ k : Fin 512, y = (ix2 0 k : S1x512.Idx) := row0 y
  have hi : (((cfg0.win 8).blk t).view.emb (ix2 0 k : S1x512.Idx) : S1x20480.Idx) = ix2 0 (⟨512 * t.val + k.val, by omega⟩ : Fin 20480) := by blk_ext [idx t]
  rw [hi]
  blk_simp
  rw [after0_8]
  frame_out
  refine (pay31_least _ _ _ _ _ _ (bag (aG m c)) (blk2 m c t) k).trans ?_
  rw [col_eq m c t k ⟨512 * t.val + k.val, by omega⟩ rfl]
  rfl

/-- The momenta. -/
theorem final9 (c : Dev nD) : (dats m 0 c).arrAt 9 (cfgs 0).N = momG (aG m c) (aC m c) (aM m c) := by
  refine (dats m 0 c).arrAt_eq_of_covers 9 _ (by decide +kernel) fun t _ y => ?_
  have ht : t.val < 40 := t.isLt
  obtain ⟨k, rfl⟩ : ∃ k : Fin 512, y = (ix2 0 k : S1x512.Idx) := row0 y
  have hi : (((cfg0.win 9).blk t).view.emb (ix2 0 k : S1x512.Idx) : S1x20480.Idx) = ix2 0 (⟨512 * t.val + k.val, by omega⟩ : Fin 20480) := by blk_ext [idx t]
  rw [hi]
  blk_simp
  rw [after0_9]
  frame_out
  refine (pay6_mom _ _ _ _ _ _ (bag (aG m c)) (blk2 m c t) k).trans ?_
  rw [blk5 m c t k ⟨512 * t.val + k.val, by omega⟩ rfl, funext (blk1 m c t k ⟨512 * t.val + k.val, by omega⟩ rfl)]
  rfl

section
variable (x0 : Vec Ideal S48x512 .i32) (x1 : Vec Ideal S128x512 .i32) (x2 : Vec Ideal S192x256 .bf16) (x3 x4 x5 : Vec Ideal S1x512 .f32)
  (gr : Fin 256 → Fin 192 → EReal) (hgt : ∀ r k, x2 (ix2 r k) = gr k (Row.feat r))

include hgt in
/-- A code of a stored piece, in place. -/
theorem in_place (o : Nat) (ho : o + 32 ≤ 192) (h32 : o % 32 = 0) (p : Fin 32) (y : Fin 512) (z : S192x512.Idx)
    (h0 : (z 0).val = o + p.val) (h1 : (z 1).val = y.val) :
    (k0_pay33 (k0_pay42 x0 x1 x2 x3 x4 x5) (k0_pay45 x0 x1 x2 x3 x4 x5) (k0_pay46 x0 x1 x2 x3 x4 x5) (ix2 (src o ho p) y)).setWidth 8
      = Row.codeOf (col x0 x1 x3 x4 x5 gr (z 1)) (z 0) := by
  have e0 : z 0 = Row.feat (src o ho p) := (Fin.ext h0).trans (feat_src o ho h32 p).symm
  have e1 : z 1 = y := Fin.ext h1
  rw [pay33_quant x0 x1 x2 x3 x4 x5 gr hgt, e0, e1]
  rfl

include hgt in
theorem out6_apply (z : S192x512.Idx) : out0_6 x0 x1 x2 x3 x4 x5 z = Row.codeOf (col x0 x1 x3 x4 x5 gr (z 1)) (z 0) := by
  have hq := pay33_lt x0 x1 x2 x3 x4 x5
  canon_tiles x h
  all_goals obtain ⟨p, y, rfl⟩ : ∃ (p : Fin 32) (y : Fin 512), x = ix2 p y := ⟨_, _, eq_ix2 x⟩
  · exact (pay2_apply _ hq p y).trans (in_place x0 x1 x2 x3 x4 x5 gr hgt 160 _ rfl p y z h0 h1)
  · exact (pay1_apply _ hq p y).trans (in_place x0 x1 x2 x3 x4 x5 gr hgt 128 _ rfl p y z h0 h1)
  · exact (pay39_apply _ hq p y).trans (in_place x0 x1 x2 x3 x4 x5 gr hgt 96 _ rfl p y z h0 h1)
  · exact (pay38_apply _ hq p y).trans (in_place x0 x1 x2 x3 x4 x5 gr hgt 64 _ rfl p y z h0 h1)
  · exact (pay37_apply _ _ _ hq p y).trans (in_place x0 x1 x2 x3 x4 x5 gr hgt 32 _ rfl p y z h0 h1)
  · exact (pay34_apply _ _ _ hq p y).trans (in_place x0 x1 x2 x3 x4 x5 gr hgt 0 _ rfl p y z (h0.trans (Nat.zero_add _).symm) h1)

end

/-- The codes. -/
theorem final6 (c : Dev nD) : (dats m 0 c).arrAt 6 (cfgs 0).N = codesG (aG m c) (aW m c) (aC m c) (aS m c) (aB m c) (aM m c) := by
  refine (dats m 0 c).arrAt_eq_of_covers 6 _ (by decide +kernel) fun t _ y => ?_
  have ht : t.val < 40 := t.isLt
  obtain ⟨d, k, rfl⟩ : ∃ (d : Fin 192) (k : Fin 512), y = (ix2 d k : S192x512.Idx) := ⟨_, _, eq_ix2 (n0 := 192) (n1 := 512) y⟩
  have hi : (((cfg0.win 6).blk t).view.emb (ix2 d k : S192x512.Idx) : S192x20480.Idx) = ix2 d (⟨512 * t.val + k.val, by omega⟩ : Fin 20480) := by blk_ext [idx t]
  rw [hi]
  blk_simp
  rw [after0_6]
  refine (out6_apply _ _ _ _ _ _ (bag (aG m c)) (blk2 m c t) (ix2 d k)).trans ?_
  show Row.codeOf (col _ _ _ _ _ _ k) d = _
  rw [col_eq m c t k ⟨512 * t.val + k.val, by omega⟩ rfl]
  rfl

end Cert.KernelIdeal.Value
-- ==== Proof.RefDefs.lean ====
/- The values of the reference, named: each is a composition of the reference's own operations. -/
module

public import proofs.«01_k».proof.Proof.Gen.ReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The codes of every row, unpacked from the table's words. -/
def codesR (words : IVec S48x20480 32) : IVec S20480x192 32 :=
  transpose S20480x192 [1, 0] (shapeCast _ (fn_main_v20 (F := Ideal)
    (broadcastInDim S48x1x20480 ![0, 2] bcast_S48x20480_S48x1x20480_0_2 (andi (Host.shrsi words (broadcastInDim S48x20480 ![] bcast_S_S48x20480 (constantI S_ 32 0#32))) (broadcastInDim S48x20480 ![] bcast_S_S48x20480 (constantI S_ 32 255#32))))
    (broadcastInDim S48x1x20480 ![0, 2] bcast_S48x20480_S48x1x20480_0_2 (andi (Host.shrsi words (broadcastInDim S48x20480 ![] bcast_S_S48x20480 (constantI S_ 32 8#32))) (broadcastInDim S48x20480 ![] bcast_S_S48x20480 (constantI S_ 32 255#32))))
    (broadcastInDim S48x1x20480 ![0, 2] bcast_S48x20480_S48x1x20480_0_2 (andi (Host.shrsi words (broadcastInDim S48x20480 ![] bcast_S_S48x20480 (constantI S_ 32 16#32))) (broadcastInDim S48x20480 ![] bcast_S_S48x20480 (constantI S_ 32 255#32))))
    (broadcastInDim S48x1x20480 ![0, 2] bcast_S48x20480_S48x1x20480_0_2 (andi (Host.shrsi words (broadcastInDim S48x20480 ![] bcast_S_S48x20480 (constantI S_ 32 24#32))) (broadcastInDim S48x20480 ![] bcast_S_S48x20480 (constantI S_ 32 255#32))))
    : IVec S48x4x20480 32) shapeCasts_S48x4x20480_S192x20480) transposes_S192x20480_S20480x192_1_0

/-- How often every row is looked up by every bag. -/
def countR (counts : IVec S128x20480 32) : IVec S20480x256 32 :=
  transpose S20480x256 [1, 0] (concatenate S256x20480 0 [⟨S128x20480, (andi counts (broadcastInDim S128x20480 ![] bcast_S_S128x20480 (constantI S_ 32 65535#32)))⟩, ⟨S128x20480, (Host.shrui counts (broadcastInDim S128x20480 ![] bcast_S_S128x20480 (constantI S_ 32 16#32)))⟩] concatenates_S128x20480_S128x20480_S256x20480_d0) transposes_S256x20480_S20480x256_1_0

/-- The gradient of every row: the sum over its occurrences. -/
def gR (grad : FVec Ideal S2x128x192 .bf16) (counts : IVec S128x20480 32) : FVec Ideal S20480x192 .f32 :=
  Host.dotGeneral (φ₁ := .f32) (φ₂ := .f32) dot_S20480x256_S256x192_S20480x192_1_0_0_1_n_n none (sitofp .f32 (countR counts))
    (extf .f32 (shapeCast _ grad shapeCasts_S2x128x192_S256x192 : FVec Ideal S256x192 .bf16) bitsLt_bf16_f32)

/-- The new momentum. -/
def momR (g : FVec Ideal S20480x192 .f32) (mo : FVec Ideal S20480 .f32) : FVec Ideal S20480 .f32 :=
  addf mo (Host.divf (Host.reduceAdd (mulf g g) (constant S_ .f32 0x00000000#32) reducesTo_S20480x192_S20480_d1 h_S_) (broadcastInDim S20480 ![] bcast_S_S20480 (constant S_ .f32 0x43400000#32)))

/-- A row's number spread over its features. -/
def spreadR (x : FVec Ideal S20480 .f32) : FVec Ideal S20480x192 .f32 :=
  broadcastInDim S20480x192 ![0, 1] bcast_S20480x1_S20480x192_0_1 (broadcastInDim S20480x1 ![0] bcast_S20480_S20480x1_0 x)

/-- The updated rows. -/
def wR (codes : IVec S20480x192 32) (g : FVec Ideal S20480x192 .f32) (sc bi mom : FVec Ideal S20480 .f32) : FVec Ideal S20480x192 .f32 :=
  subf (addf (mulf (sitofp .f32 codes) (spreadR sc)) (spreadR bi))
    (Host.divf (mulf (broadcastInDim S20480x192 ![] bcast_S_S20480x192 (constant S_ .f32 0x3DCCCCCD#32)) g)
      (spreadR (addf (Host.sqrt mom) (broadcastInDim S20480 ![] bcast_S_S20480 (constant S_ .f32 0x322BCC77#32)))))

/-- The least entry of every row. -/
def minR (w : FVec Ideal S20480x192 .f32) : FVec Ideal S20480 .f32 :=
  Host.reduce FloatOps.minimumf w (constant S_ .f32 0x7F800000#32) reducesTo_S20480x192_S20480_d1 h_S_

/-- The greatest entry of every row. -/
def maxR (w : FVec Ideal S20480x192 .f32) : FVec Ideal S20480 .f32 :=
  Host.reduce FloatOps.maximumf w (constant S_ .f32 0xFF800000#32) reducesTo_S20480x192_S20480_d1 h_S_

/-- The scale of every row, from its greatest and its least entry. -/
def scaleR (mx mn : FVec Ideal S20480 .f32) : FVec Ideal S20480 .f32 :=
  select (cmpf .oeq mx mn) (broadcastInDim S20480 ![] bcast_S_S20480 (constant S_ .f32 0x3F800000#32))
    (Host.divf (subf mx mn) (broadcastInDim S20480 ![] bcast_S_S20480 (constant S_ .f32 0x437F0000#32)))

/-- The codes of the updated rows, from their least entries and their scales. -/
def quantR (w : FVec Ideal S20480x192 .f32) (mn sc : FVec Ideal S20480 .f32) : IVec S20480x192 8 :=
  trunci 8 (fptosi 32 (minimumf (broadcastInDim S20480x192 ![] bcast_S_S20480x192 (sitofp .f32 (constantI S_ 32 255#32)))
    (maximumf (broadcastInDim S20480x192 ![] bcast_S_S20480x192 (sitofp .f32 (constantI S_ 32 0#32)))
      (Host.roundeven (Host.divf (subf w (spreadR mn)) (spreadR sc)))))) natLt_8_32

end Cert.ReferenceIdeal.Value
-- ==== Proof.RefRun.lean ====
/- The reference's results are the named values of its arguments. -/
module

public import proofs.«01_k».proof.Proof.RefDefs
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

variable (m : (ℓ : Loc nD τ sig) → Buf (Elt Ideal) ℓ) (c : Dev nD)

/-- The updated rows, from the arguments in memory. -/
abbrev newR : FVec Ideal S20480x192 .f32 :=
  wR (codesR (m ((c.tc : Thread nD τ).loc main_arg1))) (gR (m ((c.tc : Thread nD τ).loc main_arg0)) (m ((c.tc : Thread nD τ).loc main_arg2)))
    (m ((c.tc : Thread nD τ).loc main_arg3)) (m ((c.tc : Thread nD τ).loc main_arg4))
    (momR (gR (m ((c.tc : Thread nD τ).loc main_arg0)) (m ((c.tc : Thread nD τ).loc main_arg2))) (m ((c.tc : Thread nD τ).loc main_arg5)))

theorem codes_eq : res_out0 m c = transpose S192x20480 [1, 0] (quantR (newR m c) (minR (newR m c)) (scaleR (maxR (newR m c)) (minR (newR m c)))) transposes_S20480x192_S192x20480_1_0 := by
  unfold res_out0 res_main_v71; rfl

theorem scale_eq : res_out1 m c = broadcastInDim S1x20480 ![1] bcast_S20480_S1x20480_1 (scaleR (maxR (newR m c)) (minR (newR m c))) := by
  unfold res_out1 res_main_v72; rfl

theorem bias_eq : res_out2 m c = broadcastInDim S1x20480 ![1] bcast_S20480_S1x20480_1 (minR (newR m c)) := by
  unfold res_out2 res_main_v73; rfl

end Cert.ReferenceIdeal.Value
-- ==== Proof.RefValue.lean ====
/- The reference's values read at an index. -/
module

public import proofs.«01_k».proof.Proof.RefDefs
public import proofs.«01_k».proof.Proof.Row
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The word of the reference's shift right is the word shifted. -/
theorem shrsi_eq (x : BitVec 32) (k : Nat) (h : k < 32) : IntOp.shrsi .host x (BitVec.ofNat 32 k) = x.sshiftRight k := by
  unfold IntOp.shrsi
  rw [if_pos (by rw [BitVec.toNat_ofNat, Nat.mod_eq_of_lt (by omega)]; exact h)]
  show x.sshiftRight (BitVec.ofNat 32 k).toNat = _
  rw [BitVec.toNat_ofNat, Nat.mod_eq_of_lt (by omega)]

theorem codesR_apply (words : IVec S48x20480 32) (u : Fin 20480) (d : Fin 192) :
    codesR words (ix2 u d) = Cert.Row.code (fun j => words (ix2 j u)) d := by
  pointwise [codesR, fn_main_v20]
  have e (k : Nat) (h : d.val % 4 = k) (hk : 8 * k < 32) (x : BitVec 32) :
      IntOp.andi (IntOp.shrsi .host x (BitVec.ofNat 32 (8 * k))) 255#32 = x.sshiftRight (8 * (d.val % 4)) &&& 255#32 := by
    rw [shrsi_eq _ _ hk, h]; rfl
  unfold Cert.Row.code
  split
  · exact e 0 (by omega) (by omega) _
  · split
    · exact e 1 (by omega) (by omega) _
    · split
      · exact e 2 (by omega) (by omega) _
      · exact e 3 (by omega) (by omega) _

theorem countR_apply (counts : IVec S128x20480 32) (u : Fin 20480) (b : Fin 256) :
    countR counts (ix2 u b) = Cert.Row.count (fun p => counts (ix2 p u)) b := by
  pointwise [countR]
  rfl

theorem gR_apply (gr : FVec Ideal S2x128x192 .bf16) (counts : IVec S128x20480 32) (u : Fin 20480) (d : Fin 192) :
    gR gr counts (ix2 u d) = Cert.Row.grad (fun p => counts (ix2 p u))
      (fun b e => gr (ix3 ⟨b.val / 128, by omega⟩ ⟨b.val % 128, by omega⟩ e)) d := by
  pointwise [gR]
  unfold Cert.Row.grad
  refine Finset.sum_congr rfl fun b _ => ?_
  rw [countR_apply]
  rfl

theorem momR_apply (g : FVec Ideal S20480x192 .f32) (mo : FVec Ideal S20480 .f32) (u : Fin 20480) :
    momR g mo (ix1 u) = Cert.Row.mom (fun d => g (ix2 u d)) (mo (ix1 u)) := by
  pointwise [momR]
  rfl

theorem wR_apply (codes : IVec S20480x192 32) (g : FVec Ideal S20480x192 .f32) (sc bi mom : FVec Ideal S20480 .f32)
    (u : Fin 20480) (d : Fin 192) :
    wR codes g sc bi mom (ix2 u d) = Cert.Row.weight (codes (ix2 u d)) (g (ix2 u d)) (sc (ix1 u)) (bi (ix1 u)) (mom (ix1 u)) := by
  pointwise [wR, spreadR]
  rfl

theorem minR_apply (w : FVec Ideal S20480x192 .f32) (u : Fin 20480) :
    minR w (ix1 u) = Cert.Row.least (fun d => w (ix2 u d)) := by
  pointwise [minR]
  rfl

theorem maxR_apply (w : FVec Ideal S20480x192 .f32) (u : Fin 20480) :
    maxR w (ix1 u) = Cert.Row.greatest (fun d => w (ix2 u d)) := by
  pointwise [maxR]
  rfl

theorem scaleR_apply (mx mn : FVec Ideal S20480 .f32) (u : Fin 20480) :
    scaleR mx mn (ix1 u) = Cert.Row.scale (mx (ix1 u)) (mn (ix1 u)) := by
  pointwise [scaleR]
  rfl

theorem quantR_apply (w : FVec Ideal S20480x192 .f32) (mn sc : FVec Ideal S20480 .f32) (u : Fin 20480) (d : Fin 192) :
    quantR w mn sc (ix2 u d) = (Cert.Row.quant (w (ix2 u d)) (mn (ix1 u)) (sc (ix1 u))).setWidth 8 := by
  pointwise [quantR, spreadR]
  rfl

end Cert.ReferenceIdeal.Value
-- ==== Proof.RefFinal.lean ====
/- The reference's four results are the same functions of its arguments as the kernel's. -/
module

public import proofs.«01_k».proof.Proof.Array
public import proofs.«01_k».proof.Proof.RefRun
public import proofs.«01_k».proof.Proof.RefValue

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.KernelIdeal.Value

section
variable (gr : FVec Ideal S2x128x192 .bf16) (wd : IVec S48x20480 32) (cn : IVec S128x20480 32) (sc bi mo : FVec Ideal S20480 .f32)

theorem gR_row (u : Fin 20480) (d : Fin 192) : gR gr cn (ix2 u d) = rowGrad gr cn u d := gR_apply gr cn u d

theorem momR_row (u : Fin 20480) : momR (gR gr cn) mo (ix1 u) = Cert.Row.mom (rowGrad gr cn u) (mo (ix1 u)) := by
  rw [momR_apply]
  exact congrArg (fun g => Cert.Row.mom g (mo (ix1 u))) (funext (gR_row gr cn u))

theorem wR_row (u : Fin 20480) (d : Fin 192) :
    wR (codesR wd) (gR gr cn) sc bi (momR (gR gr cn) mo) (ix2 u d) = row gr wd cn sc bi mo u d := by
  rw [wR_apply, codesR_apply, gR_row, momR_row]
  rfl
end

variable (m : (ℓ : Loc nD τ sig) → Buf (Elt Ideal) ℓ) (c : Dev nD)

abbrev rG : FVec Ideal S2x128x192 .bf16 := m ((c.tc : Thread nD τ).loc main_arg0)
abbrev rW : IVec S48x20480 32 := m ((c.tc : Thread nD τ).loc main_arg1)
abbrev rC : IVec S128x20480 32 := m ((c.tc : Thread nD τ).loc main_arg2)
abbrev rS : FVec Ideal S20480 .f32 := m ((c.tc : Thread nD τ).loc main_arg3)
abbrev rB : FVec Ideal S20480 .f32 := m ((c.tc : Thread nD τ).loc main_arg4)
abbrev rM : FVec Ideal S20480 .f32 := m ((c.tc : Thread nD τ).loc main_arg5)

theorem newR_row (u : Fin 20480) : (fun d => newR m c (ix2 u d)) = row (rG m c) (rW m c) (rC m c) (rS m c) (rB m c) (rM m c) u :=
  funext (wR_row (rG m c) (rW m c) (rC m c) (rS m c) (rB m c) (rM m c) u)

theorem least_row (u : Fin 20480) : minR (newR m c) (ix1 u) = Cert.Row.least (row (rG m c) (rW m c) (rC m c) (rS m c) (rB m c) (rM m c) u) := by
  rw [minR_apply, newR_row]

theorem scale_row (u : Fin 20480) :
    scaleR (maxR (newR m c)) (minR (newR m c)) (ix1 u) = Cert.Row.scaleOf (row (rG m c) (rW m c) (rC m c) (rS m c) (rB m c) (rM m c) u) := by
  rw [scaleR_apply, least_row, maxR_apply, newR_row]
  rfl

theorem codes_final : res_out0 m c = codesG (rG m c) (rW m c) (rC m c) (rS m c) (rB m c) (rM m c) := by
  rw [codes_eq]
  have hs := scale_row m c
  have hl := least_row m c
  have hw := newR_row m c
  generalize scaleR (maxR (newR m c)) (minR (newR m c)) = s at hs ⊢
  generalize minR (newR m c) = l at hl ⊢
  generalize newR m c = w at hw ⊢
  funext i
  obtain ⟨d, u, rfl⟩ : ∃ (d : Fin 192) (u : Fin 20480), i = ix2 d u := ⟨_, _, eq_ix2 i⟩
  refine Eq.trans (b := quantR w l s (ix2 u d)) ?_ ?_
  · generalize quantR w l s = q
    pointwise
  · rw [quantR_apply, hs, hl, congrFun (hw u) d]
    rfl

theorem scale_final : res_out1 m c = scaleG (rG m c) (rW m c) (rC m c) (rS m c) (rB m c) (rM m c) := by
  rw [scale_eq]
  have hs := scale_row m c
  generalize scaleR (maxR (newR m c)) (minR (newR m c)) = s at hs ⊢
  funext i
  obtain ⟨a, u, rfl⟩ : ∃ (a : Fin 1) (u : Fin 20480), i = ix2 a u := ⟨_, _, eq_ix2 i⟩
  refine Eq.trans (b := s (ix1 u)) ?_ (hs u)
  pointwise

theorem bias_final : res_out2 m c = biasG (rG m c) (rW m c) (rC m c) (rS m c) (rB m c) (rM m c) := by
  rw [bias_eq]
  have hs := least_row m c
  generalize minR (newR m c) = s at hs ⊢
  funext i
  obtain ⟨a, u, rfl⟩ : ∃ (a : Fin 1) (u : Fin 20480), i = ix2 a u := ⟨_, _, eq_ix2 i⟩
  refine Eq.trans (b := s (ix1 u)) ?_ (hs u)
  pointwise

theorem mom_final : broadcastInDim S1x20480 ![1] bcast_S20480_S1x20480_1 (momR (gR (rG m c) (rC m c)) (rM m c)) = momG (rG m c) (rC m c) (rM m c) := by
  have hs := momR_row (rG m c) (rC m c) (rM m c)
  generalize momR (gR (rG m c) (rC m c)) (rM m c) = s at hs ⊢
  funext i
  obtain ⟨a, u, rfl⟩ : ∃ (a : Fin 1) (u : Fin 20480), i = ix2 a u := ⟨_, _, eq_ix2 i⟩
  refine Eq.trans (b := s (ix1 u)) ?_ (hs u)
  pointwise

/-- The reference's run ends with the four functions of its arguments. -/
theorem run_final (ρ : Dev nD → PrngReg) :
    θ_run defs (onTc (τ := τ) (main (F := Ideal))) ⟨m, fun _ => 0, ρ⟩ fun r => ∀ c : Dev nD,
      r.2.mem ((c.tc : Thread nD τ).loc main_v71) = codesG (rG m c) (rW m c) (rC m c) (rS m c) (rB m c) (rM m c)
      ∧ r.2.mem ((c.tc : Thread nD τ).loc main_v72) = scaleG (rG m c) (rW m c) (rC m c) (rS m c) (rB m c) (rM m c)
      ∧ r.2.mem ((c.tc : Thread nD τ).loc main_v73) = biasG (rG m c) (rW m c) (rC m c) (rS m c) (rB m c) (rM m c)
      ∧ r.2.mem ((c.tc : Thread nD τ).loc main_v74) = momG (rG m c) (rC m c) (rM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (codes_final m c), (h c).2.1.trans (scale_final m c), (h c).2.2.1.trans (bias_final m c),
    (h c).2.2.2.1.trans (mom_final m c), (h c).2.2.2.2⟩) (run m ρ)

end Cert.ReferenceIdeal.Value
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Array
public import proofs.«01_k».proof.Proof.RefFinal

@[expose] public section

set_option maxRecDepth 16384

noncomputable section

namespace Cert.Proof

open Idealize.ShloMosaic Idealize.ShloMosaic.TcCoe Idealize.SL.Sem

theorem quiescent_kernel : Cert.quiescent_Kernel (hKernel := Cert.Kernel.Gen.facts) := by
  intro m g _
  exact Cert.Kernel.Gen.frame m g

theorem quiescent_kernelIdeal : Cert.quiescent_KernelIdeal (hKernelIdeal := Cert.KernelIdeal.Gen.facts) := by
  intro m g _
  exact Cert.KernelIdeal.Gen.frame m g

theorem quiescent_reference : Cert.quiescent_ReferenceIdeal (hReferenceIdeal := Cert.ReferenceIdeal.Gen.facts) := by
  intro m g _
  exact (θ_run Cert.ReferenceIdeal.defs _ _).mono (fun r h => ⟨fun c => (h c).2.2.2.2, sem_eq_zero_of_no_sems (by decide) r.2⟩)
    (Cert.ReferenceIdeal.Value.run_final m g)

theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run_final m' g'
    · exact (Cert.KernelIdeal.Value.final6 m c).symm
    · exact (Cert.KernelIdeal.Value.final7 m c).symm
    · exact (Cert.KernelIdeal.Value.final8 m c).symm
    · exact (Cert.KernelIdeal.Value.final9 m c).symm

theorem claim : Cert.Claim :=
  ⟨Cert.Kernel.Gen.facts, Cert.KernelIdeal.Gen.facts, Cert.ReferenceIdeal.Gen.facts,
    quiescent_kernel, quiescent_kernelIdeal, quiescent_reference, trivial, algebraic⟩

end Cert.Proof

end
